-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x64 : Shape := ⟨3, ![16, 2048, 64]⟩
abbrev S64x512 : Shape := ⟨2, ![64, 512]⟩
abbrev S512 : Shape := ⟨1, ![512]⟩
abbrev S512x512 : Shape := ⟨2, ![512, 512]⟩
abbrev S_ : Shape := ⟨0, ![]⟩
abbrev S1x512 : Shape := ⟨2, ![1, 512]⟩
abbrev S16x1x2048 : Shape := ⟨3, ![16, 1, 2048]⟩
abbrev S1x2048x64 : Shape := ⟨3, ![1, 2048, 64]⟩
abbrev S1x1x2048 : Shape := ⟨3, ![1, 1, 2048]⟩
abbrev S2048x64 : Shape := ⟨2, ![2048, 64]⟩
abbrev S2048 : Shape := ⟨1, ![2048]⟩
abbrev S2048x1 : Shape := ⟨2, ![2048, 1]⟩
abbrev S2048x512 : Shape := ⟨2, ![2048, 512]⟩
abbrev S1x2048x1 : Shape := ⟨3, ![1, 2048, 1]⟩
abbrev S1 : Shape := ⟨1, ![1]⟩
abbrev S1x1x1 : Shape := ⟨3, ![1, 1, 1]⟩
abbrev S1x1x512 : Shape := ⟨3, ![1, 1, 512]⟩
abbrev S16x2048 : Shape := ⟨2, ![16, 2048]⟩

abbrev nBuf : Space → Nat
  | .hbm => 34
  | .vmem => 13
  | .smem => 0
  | _ => 0

abbrev bufTy : (tb : Table) → Fin (tcTables nBuf tb) → BufTy
  | .hbm, ⟨0, _⟩ => ⟨S16x2048x64, .f32⟩
  | .hbm, ⟨1, _⟩ => ⟨S64x512, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S64x512, .bf16⟩
  | .hbm, ⟨30, _⟩ => ⟨S512x512, .bf16⟩
  | .hbm, ⟨31, _⟩ => ⟨S512x512, .bf16⟩
  | .hbm, ⟨32, _⟩ => ⟨S16x1x2048, .f32⟩
  | .hbm, ⟨33, _⟩ => ⟨S16x2048, .f32⟩
  | .local _ .vmem, ⟨0, _⟩ => ⟨S1x2048x64, .f32⟩
  | .local _ .vmem, ⟨1, _⟩ => ⟨S1x2048x64, .f32⟩
  | .local _ .vmem, ⟨2, _⟩ => ⟨S64x512, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x1x2048, .f32⟩
  | .local _ .vmem, ⟨12, _⟩ => ⟨S1x1x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x2048x64 : Shape := ⟨3, ![16, 2048, 64]⟩
abbrev S64x512 : Shape := ⟨2, ![64, 512]⟩
abbrev S512 : Shape := ⟨1, ![512]⟩
abbrev S512x512 : Shape := ⟨2, ![512, 512]⟩
abbrev S_ : Shape := ⟨0, ![]⟩
abbrev S16x2048 : Shape := ⟨2, ![16, 2048]⟩
abbrev S16x2048x512 : Shape := ⟨3, ![16, 2048, 512]⟩
abbrev S1x1x512 : Shape := ⟨3, ![1, 1, 512]⟩
abbrev S16x2048x1 : Shape := ⟨3, ![16, 2048, 1]⟩
abbrev S16 : Shape := ⟨1, ![16]⟩
abbrev S16x1 : Shape := ⟨2, ![16, 1]⟩
abbrev S16x512 : Shape := ⟨2, ![16, 512]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x512, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S16x2048x64, .f32⟩
  | .hbm, ⟨12, _⟩ => ⟨S16x2048x64, .i1⟩
  | .hbm, ⟨13, _⟩ => ⟨S_, .i1⟩
  | .hbm, ⟨14, _⟩ => ⟨S16x2048, .i1⟩
  | .hbm, ⟨15, _⟩ => ⟨S_, .f32⟩
  | .hbm, ⟨16, _⟩ => ⟨S16x2048x64, .f32⟩
  | .hbm, ⟨17, _⟩ => ⟨S16x2048x64, .f32⟩
  | .hbm, ⟨18, _⟩ => ⟨S_, .f32⟩
  | .hbm, ⟨19, _⟩ => ⟨S16x2048x64, .f32⟩
  | .hbm, ⟨20, _⟩ => ⟨S16x2048x64, .f32⟩
  | .hbm, ⟨21, _⟩ => ⟨S16x2048x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x2048x512, .f32⟩
  | .hbm, ⟨26, _⟩ => ⟨S16x2048x512, .f32⟩
  | .hbm, ⟨27, _⟩ => ⟨S1x1x512, .f32⟩
  | .hbm, ⟨28, _⟩ => ⟨S16x2048x512, .f32⟩
  | .hbm, ⟨29, _⟩ => ⟨S16x2048x512, .f32⟩
  | .hbm, ⟨30, _⟩ => ⟨S1x1x512, .f32⟩
  | .hbm, ⟨31, _⟩ => ⟨S16x2048x512, .f32⟩
  | .hbm, ⟨32, _⟩ => ⟨S16x2048x512, .f32⟩
  | .hbm, ⟨33, _⟩ => ⟨S_, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x2048x512, .f32⟩
  | .hbm, ⟨41, _⟩ => ⟨S16x2048x512, .f32⟩
  | .hbm, ⟨42, _⟩ => ⟨S1x1x512, .f32⟩
  | .hbm, ⟨43, _⟩ => ⟨S16x2048x512, .f32⟩
  | .hbm, ⟨44, _⟩ => ⟨S16x2048x512, .f32⟩
  | .hbm, ⟨45, _⟩ => ⟨S1x1x512, .f32⟩
  | .hbm, ⟨46, _⟩ => ⟨S16x2048x512, .f32⟩
  | .hbm, ⟨47, _⟩ => ⟨S16x2048x512, .f32⟩
  | .hbm, ⟨48, _⟩ => ⟨S_, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x2048x512, .f32⟩
  | .hbm, ⟨56, _⟩ => ⟨S16x2048x512, .f32⟩
  | .hbm, ⟨57, _⟩ => ⟨S1x1x512, .f32⟩
  | .hbm, ⟨58, _⟩ => ⟨S16x2048x512, .f32⟩
  | .hbm, ⟨59, _⟩ => ⟨S16x2048x512, .f32⟩
  | .hbm, ⟨60, _⟩ => ⟨S1x1x512, .f32⟩
  | .hbm, ⟨61, _⟩ => ⟨S16x2048x512, .f32⟩
  | .hbm, ⟨62, _⟩ => ⟨S16x2048x512, .f32⟩
  | .hbm, ⟨63, _⟩ => ⟨S_, .f32⟩
  | .hbm, ⟨64, _⟩ => ⟨S16x2048x512, .f32⟩
  | .hbm, ⟨65, _⟩ => ⟨S16x2048x512, .f32⟩
  | .hbm, ⟨66, _⟩ => ⟨S16x2048x1, .i1⟩
  | .hbm, ⟨67, _⟩ => ⟨S16x2048x1, .f32⟩
  | .hbm, ⟨68, _⟩ => ⟨S16x2048, .f32⟩
  | .hbm, ⟨69, _⟩ => ⟨S_, .f32⟩
  | .hbm, ⟨70, _⟩ => ⟨S16, .f32⟩
  | .hbm, ⟨71, _⟩ => ⟨S16x1, .f32⟩
  | .hbm, ⟨72, _⟩ => ⟨S16x2048x512, .f32⟩
  | .hbm, ⟨73, _⟩ => ⟨S16x2048x512, .f32⟩
  | .hbm, ⟨74, _⟩ => ⟨S_, .f32⟩
  | .hbm, ⟨75, _⟩ => ⟨S16x512, .f32⟩
  | .hbm, ⟨76, _⟩ => ⟨S16x2048x1, .i1⟩
  | .hbm, ⟨77, _⟩ => ⟨S_, .f32⟩
  | .hbm, ⟨78, _⟩ => ⟨S_, .f32⟩
  | .hbm, ⟨79, _⟩ => ⟨S16x2048x512, .i1⟩
  | .hbm, ⟨80, _⟩ => ⟨S16x2048x512, .f32⟩
  | .hbm, ⟨81, _⟩ => ⟨S16x2048x512, .f32⟩
  | .hbm, ⟨82, _⟩ => ⟨S_, .f32⟩
  | .hbm, ⟨83, _⟩ => ⟨S16x512, .f32⟩
  | .hbm, ⟨84, _⟩ => ⟨S16x512, .f32⟩
  | .hbm, ⟨85, _⟩ => ⟨S16x512, .f32⟩
  | .hbm, ⟨86, _⟩ => ⟨S16x2048x512, .f32⟩
  | .hbm, ⟨87, _⟩ => ⟨S16x2048x512, .f32⟩
  | .hbm, ⟨88, _⟩ => ⟨S16x2048x512, .f32⟩
  | .hbm, ⟨89, _⟩ => ⟨S_, .f32⟩
  | .hbm, ⟨90, _⟩ => ⟨S16x512, .f32⟩
  | .hbm, ⟨91, _⟩ => ⟨S16x512, .f32⟩
  | .hbm, ⟨92, _⟩ => ⟨S16x512, .f32⟩
  | .hbm, ⟨93, _⟩ => ⟨S16x512, .f32⟩
  | .hbm, ⟨94, _⟩ => ⟨S16x512, .f32⟩
  | .hbm, ⟨95, _⟩ => ⟨S_, .f32⟩
  | .hbm, ⟨96, _⟩ => ⟨S16x512, .f32⟩
  | .hbm, ⟨97, _⟩ => ⟨S16x512, .f32⟩
  | .hbm, ⟨98, _⟩ => ⟨S16x512, .f32⟩
  | .hbm, ⟨99, _⟩ => ⟨S16x2048, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Proof.Spec.lean ====
/-
  The mathematics both programs are shown to compute, over the extended reals, with no program in it: which elements
  of a set count, the three dense layers an element goes through, and the four statistics of a set's features. Beside
  the definitions stand the few scalar equations by which one program's spelling becomes the other's.
-/
module

public import Idealize.ShloMosaic.Lib.Pointwise
public import Idealize.ShloMosaic.Lib.Routing.OpsOrder

@[expose] public section

noncomputable section

open Idealize.ShloMosaic
open scoped BigOperators

namespace Cert.SetPool

/-! ## Which elements count -/

open Classical in
/-- The bit of an element of a set: one exactly when some feature of it is not zero. -/
def live (x : Fin 64 → EReal) : BitVec 1 := if ∃ k, x k ≠ 0 then 1#1 else 0#1

theorem live_eq_one_iff (x : Fin 64 → EReal) : live x = 1#1 ↔ ∃ k, x k ≠ 0 := by
  unfold live
  split_ifs with h <;> simp [h]

/-- A bit that is one exactly for the elements that count is their bit. -/
theorem eq_live {x : Fin 64 → EReal} {v : BitVec 1} (h : v = 1#1 ↔ ∃ k, x k ≠ 0) : v = live x := by
  have h' := live_eq_one_iff x
  rcases BitVec.eq_zero_or_eq_one v with hv | hv <;> rcases BitVec.eq_zero_or_eq_one (live x) with hl | hl <;>
    rw [hv, hl] <;> simp_all

/-- The greatest of the features' zero-or-one marks is above zero exactly when some feature is not zero. -/
theorem zero_lt_fold_max_iff (x : Fin 64 → EReal) (b : EReal) (hb : ¬ 0 < b) (f : Fin 64 → EReal)
    (hf : ∀ k, 0 < f k ↔ x k ≠ 0) :
    0 < Finset.fold max b f Finset.univ ↔ ∃ k, x k ≠ 0 := by
  rw [Finset.lt_fold_max]
  constructor
  · rintro (h | ⟨k, -, h⟩)
    · exact absurd h hb
    · exact ⟨k, (hf k).1 h⟩
  · rintro ⟨k, h⟩
    exact .inr ⟨k, Finset.mem_univ k, (hf k).2 h⟩

/-- The number a bit stands for. -/
def weight (v : BitVec 1) : EReal := if v = 1#1 then 1 else 0

/-- The host converts the bit to a float as an unsigned word. -/
theorem uitofp_eq_weight (v : BitVec 1) : FloatOps.uitofp (F := Ideal) .f32 v = weight v := by
  rcases BitVec.eq_zero_or_eq_one v with rfl | rfl
  · show (((0#1 : BitVec 1).toNat : ℝ) : EReal) = _
    simp [weight]
  · show (((1#1 : BitVec 1).toNat : ℝ) : EReal) = _
    simp [weight]

/-- The kernel widens the bit to a word and converts that as a signed word: the same number. -/
theorem sitofp_eq_weight (v : BitVec 1) : FloatOps.sitofp (F := Ideal) .f32 (BitVec.setWidth 32 v) = weight v := by
  rcases BitVec.eq_zero_or_eq_one v with rfl | rfl
  · show (((BitVec.setWidth 32 (0#1 : BitVec 1)).toInt : ℝ) : EReal) = _
    rw [show (BitVec.setWidth 32 (0#1 : BitVec 1)).toInt = 0 by decide]
    simp [weight]
  · show (((BitVec.setWidth 32 (1#1 : BitVec 1)).toInt : ℝ) : EReal) = _
    rw [show (BitVec.setWidth 32 (1#1 : BitVec 1)).toInt = 1 by decide]
    simp [weight]

/-! ## The constants -/

/-- Minus infinity's word denotes the least extended real. -/
theorem ofBits_least : Ideal.ofBits .f32 0xFF800000#32 = ⊥ := by
  simp [Ideal.ofBits, Ideal.ieee]

/-- The root of one plus the layers' epsilon, by which each layer is divided. -/
def root : EReal := Ideal.sqrt (Ideal.ofBits .f32 0x3F8020C5#32)

/-- The root is of a positive number, so it is not zero. -/
theorem root_ne_zero : root ≠ 0 := by
  have hpos : ∃ r : ℝ, 0 < r ∧ Ideal.ofBits .f32 0x3F8020C5#32 = (r : EReal) := by
    refine ⟨1 * (2 ^ 23 + 8389 : ℕ) * (2 : ℝ) ^ ((127 : Int) - 127 - 23), by positivity, ?_⟩
    simp [Ideal.ofBits, Ideal.ieee]
  obtain ⟨r, hr, he⟩ := hpos
  rw [root, he, Ideal.sqrt_coe, if_neg (not_lt.mpr hr.le), ← EReal.coe_zero, ne_eq, EReal.coe_eq_coe_iff]
  exact (Real.sqrt_pos.mpr hr).ne'

theorem div_one_eq (x : EReal) : Ideal.div x 1 = x := by
  simp [Ideal.div]

/-- A sum divided by the root and then scaled is the sum times the scale already divided by the root. -/
theorem div_root_mul (a g : EReal) : Ideal.div a root * g = a * (g * Ideal.div 1 root) := by
  simp only [Ideal.div, if_neg root_ne_zero, one_mul]
  rw [mul_assoc, mul_comm root⁻¹ g]

/-! ## The layers -/

/-- One dense layer at output feature `n`: the product with the weights over the root, scaled, shifted, cut at zero. -/
def dense {K : ℕ} (h : Fin K → EReal) (W : Fin K → Fin 512 → EReal) (g b : Fin 512 → EReal) (n : Fin 512) : EReal :=
  max (Ideal.div (∑ k, h k * W k n) root * g n + b n) 0

/-- The layer with the root folded into the scale beforehand. -/
theorem scaled_eq_dense {K : ℕ} (h : Fin K → EReal) (W : Fin K → Fin 512 → EReal) (g b : Fin 512 → EReal) (n : Fin 512) :
    max ((∑ k, h k * W k n) * (g n * Ideal.div 1 root) + b n) 0 = dense h W g b n := by
  rw [dense, div_root_mul]

/-! ## The statistics of a set -/

section Pool

variable (h : Fin 2048 → Fin 512 → EReal) (v : Fin 2048 → BitVec 1)

/-- The sum of feature `n` over the elements that count. -/
def total (n : Fin 512) : EReal := ∑ l, h l n * weight (v l)

/-- How many elements count. -/
def count : EReal := ∑ l, weight (v l)

/-- The greatest value of feature `n` over the elements that count. -/
def peak (n : Fin 512) : EReal := Finset.fold max ⊥ (fun l => Scalar.select (v l) (h l n) ⊥) Finset.univ

/-- The mean of feature `n` over the elements that count. -/
def mean (n : Fin 512) : EReal := Ideal.div (total h v n) (count v)

/-- The mean of feature `n`'s square over the elements that count. -/
def meanSq (n : Fin 512) : EReal := Ideal.div (∑ l, h l n * h l n * weight (v l)) (count v)

/-- The standard deviation of feature `n`, its variance held above the floor. -/
def spread (n : Fin 512) : EReal :=
  Ideal.sqrt (max (meanSq h v n - mean h v n * mean h v n) (Ideal.ofBits .f32 0x2B8CBCCC#32))

/-- The square weighed before its second factor is the square weighed after. -/
theorem meanSq_eq (n : Fin 512) :
    Ideal.div (∑ l, h l n * weight (v l) * h l n) (count v) = meanSq h v n := by
  unfold meanSq
  congr 1
  exact Finset.sum_congr rfl fun l _ => mul_right_comm _ _ _

/-- A result row: the four statistics one after the other, 512 columns each. -/
def pooled (j : Fin 2048) : EReal :=
  if h₀ : (j : ℕ) < 512 then total h v ⟨j, h₀⟩
  else if h₁ : (j : ℕ) - 512 < 512 then peak h v ⟨j - 512, h₁⟩
  else if h₂ : (j : ℕ) - 512 - 512 < 512 then mean h v ⟨j - 512 - 512, h₂⟩
  else spread h v ⟨j - 512 - 512 - 512, by omega⟩

theorem pooled_total (j : Fin 2048) (n : Fin 512) (e : (j : ℕ) = n) : pooled h v j = total h v n := by
  have hn := n.isLt
  rw [pooled, dif_pos (by omega)]
  exact congrArg _ (Fin.ext e)

theorem pooled_peak (j : Fin 2048) (n : Fin 512) (e : (j : ℕ) = 512 + n) : pooled h v j = peak h v n := by
  have hn := n.isLt
  rw [pooled, dif_neg (by omega), dif_pos (by omega)]
  exact congrArg _ (Fin.ext (by show (j : ℕ) - 512 = n; omega))

theorem pooled_mean (j : Fin 2048) (n : Fin 512) (e : (j : ℕ) = 1024 + n) : pooled h v j = mean h v n := by
  have hn := n.isLt
  rw [pooled, dif_neg (by omega), dif_neg (by omega), dif_pos (by omega)]
  exact congrArg _ (Fin.ext (by show (j : ℕ) - 512 - 512 = n; omega))

theorem pooled_spread (j : Fin 2048) (n : Fin 512) (e : (j : ℕ) = 1536 + n) : pooled h v j = spread h v n := by
  have hn := n.isLt
  rw [pooled, dif_neg (by omega), dif_neg (by omega), dif_neg (by omega)]
  exact congrArg _ (Fin.ext (by show (j : ℕ) - 512 - 512 - 512 = n; omega))

end Pool

/-! ## The whole function of the arguments -/

/-- The features of one element: its three layers. -/
def features (x : Fin 64 → EReal) (W₁ : Fin 64 → Fin 512 → EReal) (g₁ b₁ : Fin 512 → EReal)
    (W₂ : Fin 512 → Fin 512 → EReal) (g₂ b₂ : Fin 512 → EReal) (W₃ : Fin 512 → Fin 512 → EReal) (g₃ b₃ : Fin 512 → EReal) :
    Fin 512 → EReal :=
  dense (dense (dense x W₁ g₁ b₁) W₂ g₂ b₂) W₃ g₃ b₃

end Cert.SetPool

end
-- ==== Proof.RefValue.lean ====
/-
  What the reference computes: its result array, read at an index, is the four statistics (Spec.lean) of the set's
  features. Read in stages: the bit of an element, the three layers, the four quarters of a row, the row.
-/
module

public import proofs.«01_k».proof.Proof.Gen.ReferenceIdeal.Read
public import proofs.«01_k».proof.Proof.Spec
public import Idealize.ShloMosaic.Lib.Tactic.CleanTypes

@[expose] public section

noncomputable section

open Idealize.ShloMosaic
open scoped BigOperators

namespace Cert.ReferenceIdeal.RefValue

open Cert.ReferenceIdeal Cert.ReferenceIdeal.Gen Cert.ReferenceIdeal.Read Cert.SetPool

variable (x0 : Vec Ideal S16x2048x64 .f32) (x1 : Vec Ideal S64x512 .f32) (x2 x3 : Vec Ideal S512 .f32)
  (x4 : Vec Ideal S512x512 .f32) (x5 x6 : Vec Ideal S512 .f32) (x7 : Vec Ideal S512x512 .f32) (x8 x9 : Vec Ideal S512 .f32)

set_option maxRecDepth 16384

/-- The features of element `l` of set `b`, as the reference's arguments give them. -/
def feat (b : Fin 16) (l : Fin 2048) : Fin 512 → EReal :=
  features (fun k => x0 (ix3 b l k)) (fun k n => x1 (ix2 k n)) (fun n => x2 (ix1 n)) (fun n => x3 (ix1 n))
    (fun k n => x4 (ix2 k n)) (fun n => x5 (ix1 n)) (fun n => x6 (ix1 n))
    (fun k n => x7 (ix2 k n)) (fun n => x8 (ix1 n)) (fun n => x9 (ix1 n))

/-- The bit of element `l` of set `b`. -/
def bit (b : Fin 16) (l : Fin 2048) : BitVec 1 := live fun k => x0 (ix3 b l k)

theorem bit_apply (b : Fin 16) (l : Fin 2048) : val_main_v2 (F := Ideal) x0 (ix2 b l) = bit x0 b l := by
  delta val_main_v2 val_main_v1 val_main_v0 val_main_cst val_main_c
  clean_types
  pointwise
  refine eq_live ?_
  rw [Routing.fold_ori]
  simp only [Finset.mem_univ, true_and]
  refine exists_congr fun k => ?_
  by_cases h : x0 (ix3 b l k) = 0 <;> simp [h]

/-- The first layer. -/
theorem layer1_apply (b : Fin 16) (l : Fin 2048) (n : Fin 512) :
    val_main_v18 (F := Ideal) x0 x1 x2 x3 (ix3 b l n)
      = dense (fun k => x0 (ix3 b l k)) (fun k n => x1 (ix2 k n)) (fun n => x2 (ix1 n)) (fun n => x3 (ix1 n)) n := by
  delta val_main_v18 val_main_v17 val_main_v16 val_main_v15 val_main_v14 val_main_v13 val_main_v12 val_main_v11
    val_main_v10 val_main_v9 val_main_v8 val_main_v7 val_main_v6 val_main_v5 val_main_v4 val_main_v3 val_main_cst_0
    val_main_cst_1 val_main_cst_2 val_main_call0_v0 val_main_call0_cst
  clean_types
  pointwise [div_one_eq]
  rfl

/-- The second layer, of the first's output. -/
theorem layer2_apply (b : Fin 16) (l : Fin 2048) (n : Fin 512) :
    val_main_v30 (F := Ideal) x0 x1 x2 x3 x4 x5 x6 (ix3 b l n)
      = dense (fun k => val_main_v18 (F := Ideal) x0 x1 x2 x3 (ix3 b l k)) (fun k n => x4 (ix2 k n)) (fun n => x5 (ix1 n))
          (fun n => x6 (ix1 n)) n := by
  delta val_main_v30 val_main_v29 val_main_v28 val_main_v27 val_main_v26 val_main_v25 val_main_v24 val_main_v23
    val_main_v22 val_main_v21 val_main_v20 val_main_v19 val_main_cst_3 val_main_call1_v0 val_main_call1_cst
  clean_types
  pointwise
  rfl

/-- The third layer, of the second's output. -/
theorem layer3_apply (b : Fin 16) (l : Fin 2048) (n : Fin 512) :
    val_main_v42 (F := Ideal) x0 x1 x2 x3 x4 x5 x6 x7 x8 x9 (ix3 b l n)
      = dense (fun k => val_main_v30 (F := Ideal) x0 x1 x2 x3 x4 x5 x6 (ix3 b l k)) (fun k n => x7 (ix2 k n))
          (fun n => x8 (ix1 n)) (fun n => x9 (ix1 n)) n := by
  delta val_main_v42 val_main_v41 val_main_v40 val_main_v39 val_main_v38 val_main_v37 val_main_v36 val_main_v35
    val_main_v34 val_main_v33 val_main_v32 val_main_v31 val_main_cst_4 val_main_call2_v0 val_main_call2_cst
  clean_types
  pointwise
  rfl

/-- The three layers together. -/
theorem feat_apply (b : Fin 16) (l : Fin 2048) (n : Fin 512) :
    val_main_v42 (F := Ideal) x0 x1 x2 x3 x4 x5 x6 x7 x8 x9 (ix3 b l n) = feat x0 x1 x2 x3 x4 x5 x6 x7 x8 x9 b l n := by
  rw [layer3_apply]
  simp only [layer2_apply, layer1_apply]
  rfl

/-- The first quarter of a row: the sums. -/
theorem total_apply (b : Fin 16) (n : Fin 512) :
    val_main_v50 (F := Ideal) x0 x1 x2 x3 x4 x5 x6 x7 x8 x9 (ix2 b n)
      = total (feat x0 x1 x2 x3 x4 x5 x6 x7 x8 x9 b) (bit x0 b) n := by
  delta val_main_v50 val_main_v49 val_main_v48 val_main_v44 val_main_v43 val_main_cst_6
  clean_types
  pointwise [feat_apply, bit_apply, uitofp_eq_weight]
  rfl

/-- The number of elements that count. -/
theorem count_apply (b : Fin 16) (n : Fin 512) :
    val_main_v54 (F := Ideal) x0 (ix2 b n) = count (bit x0 b) := by
  delta val_main_v54 val_main_v47 val_main_v46 val_main_v45 val_main_cst_5
  clean_types
  pointwise [bit_apply, uitofp_eq_weight]
  rfl

/-- The second quarter: the greatest values. -/
theorem peak_apply (b : Fin 16) (n : Fin 512) :
    val_main_v53 (F := Ideal) x0 x1 x2 x3 x4 x5 x6 x7 x8 x9 (ix2 b n)
      = peak (feat x0 x1 x2 x3 x4 x5 x6 x7 x8 x9 b) (bit x0 b) n := by
  delta val_main_v53 val_main_v52 val_main_v51 val_main_cst_8 val_main_call3_v2 val_main_call3_v1 val_main_call3_v0
    val_main_cst_7
  clean_types
  pointwise [feat_apply, bit_apply, id, constant_apply, ofBits_least]
  rfl

/-- The third quarter: the means. -/
theorem mean_apply (b : Fin 16) (n : Fin 512) :
    val_main_v55 (F := Ideal) x0 x1 x2 x3 x4 x5 x6 x7 x8 x9 (ix2 b n)
      = mean (feat x0 x1 x2 x3 x4 x5 x6 x7 x8 x9 b) (bit x0 b) n := by
  delta val_main_v55
  clean_types
  pointwise [total_apply, count_apply]
  rfl

/-- The means of the squares. -/
theorem meanSq_apply (b : Fin 16) (n : Fin 512) :
    val_main_v61 (F := Ideal) x0 x1 x2 x3 x4 x5 x6 x7 x8 x9 (ix2 b n)
      = meanSq (feat x0 x1 x2 x3 x4 x5 x6 x7 x8 x9 b) (bit x0 b) n := by
  delta val_main_v61 val_main_v60 val_main_v59 val_main_v58 val_main_v57 val_main_v56 val_main_v47 val_main_v46
    val_main_v45 val_main_v44 val_main_v43 val_main_cst_9 val_main_cst_5
  clean_types
  pointwise [feat_apply, bit_apply, uitofp_eq_weight]
  rfl

/-- The fourth quarter: the standard deviations. -/
theorem spread_apply (b : Fin 16) (n : Fin 512) :
    val_main_v66 (F := Ideal) x0 x1 x2 x3 x4 x5 x6 x7 x8 x9 (ix2 b n)
      = spread (feat x0 x1 x2 x3 x4 x5 x6 x7 x8 x9 b) (bit x0 b) n := by
  delta val_main_v66 val_main_v65 val_main_v64 val_main_v63 val_main_v62 val_main_cst_10
  clean_types
  pointwise [meanSq_apply, mean_apply]
  rfl

/-- A row of the result: the four quarters side by side. -/
theorem result_apply (b : Fin 16) (j : Fin 2048) :
    val_main_v67 (F := Ideal) x0 x1 x2 x3 x4 x5 x6 x7 x8 x9 (ix2 b j)
      = pooled (feat x0 x1 x2 x3 x4 x5 x6 x7 x8 x9 b) (bit x0 b) j := by
  delta val_main_v67
  clean_types
  pointwise [total_apply, peak_apply, mean_apply, spread_apply]
  rfl

end Cert.ReferenceIdeal.RefValue

end
-- ==== Proof.Block.lean ====
/-
  What one grid point of the kernel computes: the row its body writes, from the blocks its windows hold, is the four
  statistics (Spec.lean) of the features of the set in its block.
-/
module

public import proofs.«01_k».proof.Proof.Gen.KernelIdeal.Frame
public import proofs.«01_k».proof.Proof.Spec
public import Idealize.ShloMosaic.Lib.Pipeline.Value

@[expose] public section

noncomputable section

open Idealize.ShloMosaic
open scoped BigOperators

namespace Cert.KernelIdeal.Block

open Cert.KernelIdeal Cert.KernelIdeal.Gen Cert.SetPool

set_option maxRecDepth 16384

/-! ## The values of the body, one at a time -/

section Stages

variable (X : Vec Ideal S1x2048x64 .f32) (W₁ : Vec Ideal S64x512 .bf16) (s₁ t₁ : Vec Ideal S1x512 .f32)
  (W₂ : Vec Ideal S512x512 .bf16) (s₂ t₂ : Vec Ideal S1x512 .f32) (W₃ : Vec Ideal S512x512 .bf16) (s₃ t₃ : Vec Ideal S1x512 .f32)

/-- The mask: the bit of each element. -/
theorem mask_apply (l : Fin 2048) : k0_pay6 (F := Ideal) X (ix2 l 0) = live fun k => X (ix3 0 l k) := by
  unfold_payloads
  pointwise
  refine eq_live ?_
  rw [WordCmp.ofBool_eq_one_iff, decide_eq_true_eq]
  refine zero_lt_fold_max_iff _ _ ?_ _ fun k => ?_
  · rw [ofBits_least]; exact not_lt_bot
  · by_cases h : X (ix3 0 l k) = 0 <;> simp [h]

/-- The bit as a number. -/
theorem weight_apply (v : IVec S2048x1 1) (l : Fin 2048) : k0_pay9 (F := Ideal) v (ix2 l 0) = weight (v (ix2 l 0)) := by
  unfold_payloads
  pointwise [sitofp_eq_weight]

/-- The number of elements that count. -/
theorem count_apply (v : IVec S2048x1 1) : k0_pay10 (F := Ideal) v = count fun l => v (ix2 l 0) := by
  unfold k0_pay10
  pointwise [weight_apply]
  simp [SetPool.count]

variable {g₁ g₂ g₃ : Fin 512 → EReal} (h₁ : ∀ n, s₁ (ix2 0 n) = g₁ n * Ideal.div 1 root)
  (h₂ : ∀ n, s₂ (ix2 0 n) = g₂ n * Ideal.div 1 root) (h₃ : ∀ n, s₃ (ix2 0 n) = g₃ n * Ideal.div 1 root)

/-- The features of the block's element `l`. -/
def feat (g₁ g₂ g₃ : Fin 512 → EReal) (l : Fin 2048) : Fin 512 → EReal :=
  features (fun k => X (ix3 0 l k)) (fun k n => W₁ (ix2 k n)) g₁ (fun n => t₁ (ix2 0 n)) (fun k n => W₂ (ix2 k n)) g₂
    (fun n => t₂ (ix2 0 n)) (fun k n => W₃ (ix2 k n)) g₃ (fun n => t₃ (ix2 0 n))

include h₁ h₂ h₃ in
/-- The body's third activation is the features. -/
theorem feat_apply (l : Fin 2048) (n : Fin 512) :
    k0_pay8 (F := Ideal) (k0_pay7 X W₁ s₁ t₁ W₂ s₂) t₂ W₃ s₃ t₃ (ix2 l n)
      = feat X W₁ t₁ W₂ t₂ W₃ t₃ g₁ g₂ g₃ l n := by
  unfold_payloads
  pointwise [dot_S2048x64_S64x512_S2048x512_1_0_0_1_n_n, dot_S2048x512_S512x512_S2048x512_1_0_0_1_n_n, h₁, h₂, h₃]
  simp only [scaled_eq_dense (fun k => X (ix3 0 l k)) (fun k n => W₁ (ix2 k n)) g₁ (fun n => t₁ (ix2 0 n)),
    scaled_eq_dense (K := 512) _ (fun k n => W₂ (ix2 k n)) g₂ (fun n => t₂ (ix2 0 n))]
  exact scaled_eq_dense (K := 512) _ (fun k n => W₃ (ix2 k n)) g₃ (fun n => t₃ (ix2 0 n)) n

end Stages

/-! ## The four statistics of any activations and any bits -/

section Pool

variable (v : IVec S2048x1 1) (a : FVec Ideal S2048x512 .f32) (t₂ : Vec Ideal S1x512 .f32) (W₃ : Vec Ideal S512x512 .bf16)
  (s₃ t₃ : Vec Ideal S1x512 .f32)

/-- The activations the four statistics are taken of. -/
abbrev act (l : Fin 2048) (n : Fin 512) : EReal := k0_pay8 (F := Ideal) a t₂ W₃ s₃ t₃ (ix2 l n)

theorem total_apply (n : Fin 512) :
    k0_pay12 (F := Ideal) v a t₂ W₃ s₃ t₃ (ix2 0 n) = total (act a t₂ W₃ s₃ t₃) (fun l => v (ix2 l 0)) n := by
  unfold k0_pay12 k0_pay11
  pointwise [weight_apply]
  rfl

theorem peak_apply (n : Fin 512) :
    k0_pay13 (F := Ideal) v a t₂ W₃ s₃ t₃ (ix2 0 n) = peak (act a t₂ W₃ s₃ t₃) (fun l => v (ix2 l 0)) n := by
  unfold k0_pay13
  pointwise [ofBits_least]
  rfl

theorem meanSq_apply (n : Fin 512) :
    k0_pay14 (F := Ideal) v a t₂ W₃ s₃ t₃ (ix2 0 n) = meanSq (act a t₂ W₃ s₃ t₃) (fun l => v (ix2 l 0)) n := by
  rw [← meanSq_eq]
  unfold k0_pay14 k0_pay11
  pointwise [weight_apply, count_apply]

theorem mean_apply (n : Fin 512) :
    k0_pay15 (F := Ideal) v a t₂ W₃ s₃ t₃ (ix2 0 n) = mean (act a t₂ W₃ s₃ t₃) (fun l => v (ix2 l 0)) n := by
  unfold k0_pay15
  pointwise [total_apply, count_apply]
  rfl

theorem spread_apply (n : Fin 512) :
    k0_pay4 (F := Ideal) (k0_pay14 v a t₂ W₃ s₃ t₃) (k0_pay15 v a t₂ W₃ s₃ t₃) (ix3 0 0 n)
      = spread (act a t₂ W₃ s₃ t₃) (fun l => v (ix2 l 0)) n := by
  unfold k0_pay4
  pointwise [meanSq_apply, mean_apply]
  rfl

end Pool

/-! ## The row -/

theorem hz2 : (![0, 0] : Fin 2 → Nat) = fun _ => 0 := funext fun a => by fin_cases a <;> rfl
theorem hz3 : (![0, 0, 0] : Fin 3 → Nat) = fun _ => 0 := funext fun a => by fin_cases a <;> rfl

theorem ld_set (X : Vec Ideal S1x2048x64 .f32) : View.ld (Val := Elt Ideal) X r0_0 = X := View.ld_unit_zero (S := S1x2048x64) hz3 _ X
theorem ld_in (X : Vec Ideal S64x512 .bf16) : View.ld (Val := Elt Ideal) X r0_1 = X := View.ld_unit_zero (S := S64x512) hz2 _ X
theorem ld_row (X : Vec Ideal S1x512 .f32) : View.ld (Val := Elt Ideal) X r0_2 = X := View.ld_unit_zero (S := S1x512) hz2 _ X
theorem ld_mid (X : Vec Ideal S512x512 .bf16) : View.ld (Val := Elt Ideal) X r0_3 = X := View.ld_unit_zero (S := S512x512) hz2 _ X

/-- A place of a quarter of the row is known by its column. -/
theorem eq_col (x : S1x1x512.Idx) : ∃ n : Fin 512, x = ix3 0 0 n :=
  ⟨x 2, by
    funext a
    match a with
    | ⟨0, _⟩ => exact Subsingleton.elim (α := Fin 1) _ _
    | ⟨1, _⟩ => exact Subsingleton.elim (α := Fin 1) _ _
    | ⟨2, _⟩ => rfl⟩

theorem row_total (z : Vec Ideal S1x512 .f32) (n : Fin 512) : k0_pay1 (F := Ideal) z (ix3 0 0 n) = z (ix2 0 n) := by
  unfold k0_pay1
  pointwise

theorem row_peak (z : Vec Ideal S1x512 .f32) (n : Fin 512) : k0_pay2 (F := Ideal) z (ix3 0 0 n) = z (ix2 0 n) := by
  unfold k0_pay2
  pointwise

theorem row_mean (z : Vec Ideal S1x512 .f32) (n : Fin 512) : k0_pay3 (F := Ideal) z (ix3 0 0 n) = z (ix2 0 n) := by
  unfold k0_pay3
  pointwise

/-- Four stores side by side in the row, read at a column. -/
theorem row_apply (h : Fin 2048 → Fin 512 → EReal) (v : Fin 2048 → BitVec 1) (p₀ p₁ p₂ p₃ : Vec Ideal S1x1x512 .f32)
    (e₀ : ∀ n, p₀ (ix3 0 0 n) = spread h v n) (e₁ : ∀ n, p₁ (ix3 0 0 n) = mean h v n)
    (e₂ : ∀ n, p₂ (ix3 0 0 n) = peak h v n) (e₃ : ∀ n, p₃ (ix3 0 0 n) = total h v n) (y : S1x1x2048.Idx) :
    View.canon (Val := Elt Ideal) (s := S1x1x2048) (e := .f32) [⟨r0_7, p₀⟩, ⟨r0_6, p₁⟩, ⟨r0_5, p₂⟩, ⟨r0_4, p₃⟩] y = pooled h v (y 2) := by
  refine View.canon_apply_of_pieces (Val := Elt Ideal) (S := S1x1x2048) (e := .f32)
    (fun y : S1x1x2048.Idx => pooled h v (y 2)) _ ?_ y (cover0_10 _ _ _ _ y)
  intro p hp x
  simp only [List.mem_cons, List.mem_nil_iff, or_false] at hp
  rcases hp with rfl | rfl | rfl | rfl
  · obtain ⟨n, rfl⟩ := eq_col x
    refine (e₀ n).trans (pooled_spread _ _ _ n ?_).symm
    show 1536 + 1 * (n : ℕ) = _
    omega
  · obtain ⟨n, rfl⟩ := eq_col x
    refine (e₁ n).trans (pooled_mean _ _ _ n ?_).symm
    show 1024 + 1 * (n : ℕ) = _
    omega
  · obtain ⟨n, rfl⟩ := eq_col x
    refine (e₂ n).trans (pooled_peak _ _ _ n ?_).symm
    show 512 + 1 * (n : ℕ) = _
    omega
  · obtain ⟨n, rfl⟩ := eq_col x
    refine (e₃ n).trans (pooled_total _ _ _ n ?_).symm
    show 0 + 1 * (n : ℕ) = n
    omega

/-- What the body leaves in the output block: the row of the four statistics of the block's set. -/
theorem out_apply (X : Vec Ideal S1x2048x64 .f32) (W₁ : Vec Ideal S64x512 .bf16) (s₁ t₁ : Vec Ideal S1x512 .f32)
    (W₂ : Vec Ideal S512x512 .bf16) (s₂ t₂ : Vec Ideal S1x512 .f32) (W₃ : Vec Ideal S512x512 .bf16) (s₃ t₃ : Vec Ideal S1x512 .f32)
    {g₁ g₂ g₃ : Fin 512 → EReal} (h₁ : ∀ n, s₁ (ix2 0 n) = g₁ n * Ideal.div 1 root)
    (h₂ : ∀ n, s₂ (ix2 0 n) = g₂ n * Ideal.div 1 root) (h₃ : ∀ n, s₃ (ix2 0 n) = g₃ n * Ideal.div 1 root) (y : S1x1x2048.Idx) :
    out0_10 (F := Ideal) X W₁ s₁ t₁ W₂ s₂ t₂ W₃ s₃ t₃ y
      = pooled (feat X W₁ t₁ W₂ t₂ W₃ t₃ g₁ g₂ g₃) (fun l => live fun k => X (ix3 0 l k)) (y 2) := by
  have hact : act (k0_pay7 X W₁ s₁ t₁ W₂ s₂) t₂ W₃ s₃ t₃ = feat X W₁ t₁ W₂ t₂ W₃ t₃ g₁ g₂ g₃ :=
    funext fun l => funext fun n => feat_apply X W₁ s₁ t₁ W₂ s₂ t₂ W₃ s₃ t₃ h₁ h₂ h₃ l n
  have hbit : (fun l => k0_pay6 (F := Ideal) X (ix2 l 0)) = fun l => live fun k => X (ix3 0 l k) :=
    funext fun l => mask_apply X l
  unfold_out out0_10
  rw [ld_set, ld_in, ld_mid, ld_mid, ld_row, ld_row, ld_row, ld_row, ld_row, ld_row]
  refine row_apply _ _ _ _ _ _ (fun n => ?_) (fun n => ?_) (fun n => ?_) (fun n => ?_) y
  · rw [spread_apply, hact, hbit]
  · rw [row_mean, mean_apply, hact, hbit]
  · rw [row_peak, peak_apply, hact, hbit]
  · rw [row_total, total_apply, hact, hbit]

end Cert.KernelIdeal.Block
-- ==== Proof.KernelArray.lean ====
/-
  The kernel's result array: every grid point reads its set and the whole of the parameters, its row is the four
  statistics (Block.lean), the rows fill the array, and the closing reshape drops the unit axis.
-/
module

public import proofs.«01_k».proof.Proof.Block
public import Idealize.ShloMosaic.Lib.Claim
public import Idealize.ShloMosaic.Lib.Pipeline.ValueKit
public import Idealize.ShloMosaic.Lib.Pointwise
public import Idealize.ShloMosaic.Lib.Tactic.CleanTypes

@[expose] public section

noncomputable section

open Idealize.ShloMosaic Idealize.SL.Sem
open Idealize.ShloMosaic.Pipeline (Dat)
open scoped BigOperators

namespace Cert.KernelIdeal.KernelArray

open Cert.KernelIdeal Cert.KernelIdeal.Gen Cert.KernelIdeal.Block Cert.SetPool

set_option maxRecDepth 16384

variable (m : (ℓ : Loc nD τ sig) → Buf (Elt Ideal) ℓ) (ρ : Dev nD → PrngReg) (c : Dev nD)

/-! ## The argument arrays, as vectors -/

abbrev a0 : Vec Ideal S16x2048x64 .f32 := m ((c.tc : Thread nD τ).loc main_arg0)
abbrev a1 : Vec Ideal S64x512 .f32 := m ((c.tc : Thread nD τ).loc main_arg1)
abbrev a2 : Vec Ideal S512 .f32 := m ((c.tc : Thread nD τ).loc main_arg2)
abbrev a3 : Vec Ideal S512 .f32 := m ((c.tc : Thread nD τ).loc main_arg3)
abbrev a4 : Vec Ideal S512x512 .f32 := m ((c.tc : Thread nD τ).loc main_arg4)
abbrev a5 : Vec Ideal S512 .f32 := m ((c.tc : Thread nD τ).loc main_arg5)
abbrev a6 : Vec Ideal S512 .f32 := m ((c.tc : Thread nD τ).loc main_arg6)
abbrev a7 : Vec Ideal S512x512 .f32 := m ((c.tc : Thread nD τ).loc main_arg7)
abbrev a8 : Vec Ideal S512 .f32 := m ((c.tc : Thread nD τ).loc main_arg8)
abbrev a9 : Vec Ideal S512 .f32 := m ((c.tc : Thread nD τ).loc main_arg9)

/-- The features of element `l` of set `b`, as the kernel's arguments give them. -/
def feats (b : Fin 16) (l : Fin 2048) : Fin 512 → EReal :=
  features (fun k => a0 m c (ix3 b l k)) (fun k n => a1 m c (ix2 k n)) (fun n => a2 m c (ix1 n)) (fun n => a3 m c (ix1 n))
    (fun k n => a4 m c (ix2 k n)) (fun n => a5 m c (ix1 n)) (fun n => a6 m c (ix1 n))
    (fun k n => a7 m c (ix2 k n)) (fun n => a8 m c (ix1 n)) (fun n => a9 m c (ix1 n))

/-- The bit of element `l` of set `b`. -/
def bits (b : Fin 16) (l : Fin 2048) : BitVec 1 := live fun k => a0 m c (ix3 b l k)

/-- Row `b` of the result. -/
def row (b : Fin 16) (j : Fin 2048) : EReal := pooled (feats m c b) (bits m c b) j

/-! ## The parameters as the grid finds them -/

theorem entry_v5 (n : Fin 512) : (V m c main_v5 : Vec Ideal S1x512 .f32) (ix2 0 n) = a2 m c (ix1 n) * Ideal.div 1 root := by
  simp only [V, V0, hostOps0, List.flatten_cons, List.flatten_nil, List.append_nil, List.cons_append, List.nil_append]
  after_results_simp
  dsimp only [id]
  clean_types
  pointwise
  rfl

theorem entry_v9 (n : Fin 512) : (V m c main_v9 : Vec Ideal S1x512 .f32) (ix2 0 n) = a5 m c (ix1 n) * Ideal.div 1 root := by
  simp only [V, V0, hostOps0, List.flatten_cons, List.flatten_nil, List.append_nil, List.cons_append, List.nil_append]
  after_results_simp
  dsimp only [id]
  clean_types
  pointwise
  rfl

theorem entry_v13 (n : Fin 512) : (V m c main_v13 : Vec Ideal S1x512 .f32) (ix2 0 n) = a8 m c (ix1 n) * Ideal.div 1 root := by
  simp only [V, V0, hostOps0, List.flatten_cons, List.flatten_nil, List.append_nil, List.cons_append, List.nil_append]
  after_results_simp
  dsimp only [id]
  clean_types
  pointwise
  rfl

theorem entry_v14 (n : Fin 512) : (V m c main_v14 : Vec Ideal S1x512 .f32) (ix2 0 n) = a3 m c (ix1 n) := by
  simp only [V, V0, hostOps0, List.flatten_cons, List.flatten_nil, List.append_nil, List.cons_append, List.nil_append]
  after_results_simp
  clean_types
  pointwise

theorem entry_v15 (n : Fin 512) : (V m c main_v15 : Vec Ideal S1x512 .f32) (ix2 0 n) = a6 m c (ix1 n) := by
  simp only [V, V0, hostOps0, List.flatten_cons, List.flatten_nil, List.append_nil, List.cons_append, List.nil_append]
  after_results_simp
  clean_types
  pointwise

theorem entry_v16 (n : Fin 512) : (V m c main_v16 : Vec Ideal S1x512 .f32) (ix2 0 n) = a9 m c (ix1 n) := by
  simp only [V, V0, hostOps0, List.flatten_cons, List.flatten_nil, List.append_nil, List.cons_append, List.nil_append]
  after_results_simp
  clean_types
  pointwise

theorem entry_v17 (k : Fin 64) (n : Fin 512) : (V m c main_v17 : Vec Ideal S64x512 .bf16) (ix2 k n) = a1 m c (ix2 k n) := by
  simp only [V, V0, hostOps0, List.flatten_cons, List.flatten_nil, List.append_nil, List.cons_append, List.nil_append]
  after_results_simp
  clean_types
  pointwise

theorem entry_v18 (k : Fin 512) (n : Fin 512) : (V m c main_v18 : Vec Ideal S512x512 .bf16) (ix2 k n) = a4 m c (ix2 k n) := by
  simp only [V, V0, hostOps0, List.flatten_cons, List.flatten_nil, List.append_nil, List.cons_append, List.nil_append]
  after_results_simp
  clean_types
  pointwise

theorem entry_v19 (k : Fin 512) (n : Fin 512) : (V m c main_v19 : Vec Ideal S512x512 .bf16) (ix2 k n) = a7 m c (ix2 k n) := by
  simp only [V, V0, hostOps0, List.flatten_cons, List.flatten_nil, List.append_nil, List.cons_append, List.nil_append]
  after_results_simp
  clean_types
  pointwise

/-! ## The blocks -/

theorem index0 : ∀ t : Fin cfg0.N, win0_0.index t = ![(grid0.coords t 0).val, 0, 0] := by decide +kernel
theorem index10 : ∀ t : Fin cfg0.N, win0_10.index t = ![(grid0.coords t 0).val, 0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel

/-- The set in the block of a grid point. -/
theorem blk0 (t : Fin cfg0.N) (l : Fin 2048) (k : Fin 64) (b : Fin 16) (hb : (b : ℕ) = (grid0.coords t 0).val) :
    (iblk m c 0 t : Vec Ideal S1x2048x64 .f32) (ix3 0 l k) = a0 m c (ix3 b l k) := by
  blk_ext [iblk, V, index0 t]

theorem blk1 (t : Fin cfg0.N) : (iblk m c 1 t : Vec Ideal S64x512 .bf16) = V m c main_v17 := by
  funext y
  blk_ext [iblk, index1 t]

theorem blk2 (t : Fin cfg0.N) : (iblk m c 2 t : Vec Ideal S1x512 .f32) = V m c main_v5 := by
  funext y
  blk_ext [iblk, index2 t]

theorem blk3 (t : Fin cfg0.N) : (iblk m c 3 t : Vec Ideal S1x512 .f32) = V m c main_v14 := by
  funext y
  blk_ext [iblk, index3 t]

theorem blk4 (t : Fin cfg0.N) : (iblk m c 4 t : Vec Ideal S512x512 .bf16) = V m c main_v18 := by
  funext y
  blk_ext [iblk, index4 t]

theorem blk5 (t : Fin cfg0.N) : (iblk m c 5 t : Vec Ideal S1x512 .f32) = V m c main_v9 := by
  funext y
  blk_ext [iblk, index5 t]

theorem blk6 (t : Fin cfg0.N) : (iblk m c 6 t : Vec Ideal S1x512 .f32) = V m c main_v15 := by
  funext y
  blk_ext [iblk, index6 t]

theorem blk7 (t : Fin cfg0.N) : (iblk m c 7 t : Vec Ideal S512x512 .bf16) = V m c main_v19 := by
  funext y
  blk_ext [iblk, index7 t]

theorem blk8 (t : Fin cfg0.N) : (iblk m c 8 t : Vec Ideal S1x512 .f32) = V m c main_v13 := by
  funext y
  blk_ext [iblk, index8 t]

theorem blk9 (t : Fin cfg0.N) : (iblk m c 9 t : Vec Ideal S1x512 .f32) = V m c main_v16 := by
  funext y
  blk_ext [iblk, index9 t]

/-- What a grid point writes, at a place of its block: the entry of the row of its set. -/
theorem point_apply (t : Fin cfg0.N) (b : Fin 16) (hb : (b : ℕ) = (grid0.coords t 0).val) (y : S1x1x2048.Idx) :
    out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) y = row m c b (y 2) := by
  rw [blk1, blk2, blk3, blk4, blk5, blk6, blk7, blk8, blk9]
  refine (out_apply (iblk m c 0 t) _ _ _ _ _ _ _ _ _ (entry_v5 m c) (entry_v9 m c) (entry_v13 m c) y).trans ?_
  have hbit : (fun l => live fun k => (iblk m c 0 t : Vec Ideal S1x2048x64 .f32) (ix3 0 l k)) = bits m c b :=
    funext fun l => congrArg live (funext fun k => blk0 m c t l k b hb)
  have hfeat : feat (iblk m c 0 t) (V m c main_v17) (V m c main_v14) (V m c main_v18) (V m c main_v15) (V m c main_v19)
      (V m c main_v16) (fun n => a2 m c (ix1 n)) (fun n => a5 m c (ix1 n)) (fun n => a8 m c (ix1 n)) = feats m c b := by
    funext l
    unfold feat feats
    congr 1
    · exact funext fun k => blk0 m c t l k b hb
    · exact funext (entry_v14 m c)
    · exact funext (entry_v15 m c)
    · exact funext (entry_v16 m c)
  rw [hbit, hfeat]
  rfl

/-- The result array before the closing reshape. -/
theorem final : (dats m 0 c).arrAt 10 cfg0.N = fun i : S16x1x2048.Idx => row m c (i 0) (i 2) := by
  refine (dats m 0 c).arrAt_eq_of_covers 10 _ (by decide +kernel) fun t hf y => ?_
  blk_simp
  rw [after0_10]
  have h0 : (y 0 : ℕ) < 1 := (y 0).isLt
  refine (point_apply m c t ((win0_10.blk t).view.emb y 0) ?_ y).trans
    (congrArg (row m c ((win0_10.blk t).view.emb y 0)) (Fin.ext ?_))
  · blk_simp [index10 t]
  · blk_simp [index10 t]

/-- The closing reshape: the result array, read at a set and a column. -/
theorem tail_apply (b : Fin 16) (j : Fin 2048) :
    (Pipeline.afterTail₀ cfgs (dats m) 0 (V0 m) [hostOps1] c main_v21 : Vec Ideal S16x2048 .f32) (ix2 b j) = row m c b j := by
  have e := Pipeline.withArrays_arr spec0 (by decide) c (V0 m c) (fun w => (dats m 0 c).arrAt w cfg0.N) 10
  unfold Pipeline.afterTail₀
  simp only [hostOps1, List.flatten_cons, List.flatten_nil, List.append_nil, List.cons_append, List.nil_append]
  after_results_simp
  refine (congrFun (congrArg (fun z : Vec Ideal S16x1x2048 .f32 => shapeCast S16x2048 z shapeCasts_S16x1x2048_S16x2048)
    (e.trans (final m c))) (ix2 b j)).trans ?_
  pointwise

/-- The run: the result array holds the rows, the arguments are unchanged. -/
theorem run : θ_run defs (onTc (τ := τ) (main (F := Ideal))) ⟨m, fun _ => 0, ρ⟩ (fun r => ∀ c : Dev nD,
      (r.2.mem ((c.tc : Thread nD τ).loc main_v21) = fun i : S16x2048.Idx => row m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨?_, h.2 c⟩) (θ_run_and (run_main m ρ) (unchanged m ρ))
  refine ((h.1 c).2 main_v21 (Pipeline.mem_restRefs_of main_v21 (by decide) (by decide))).trans ?_
  funext i
  rw [eq_ix2 i]
  exact tail_apply m c (i 0) (i 1)

end Cert.KernelIdeal.KernelArray

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import proofs.«01_k».proof.Proof.KernelArray
public import Idealize.ShloMosaic.Adequacy
public import Idealize.ShloMosaic.Init

@[expose] public section

noncomputable section

namespace Cert.Proof

open Idealize.ShloMosaic Idealize.SL.Sem Cert.Kernel

/-- The reference's result array, of the kernel's arguments: the kernel's rows. -/
theorem ref_eq (m : (ℓ : Loc Cert.KernelIdeal.nD Cert.KernelIdeal.τ Cert.KernelIdeal.sig) → Buf (Elt Ideal) ℓ) (c : Dev Cert.KernelIdeal.nD) :
    Cert.ReferenceIdeal.Read.val_main_v67 (F := Ideal) (Cert.KernelIdeal.KernelArray.a0 m c) (Cert.KernelIdeal.KernelArray.a1 m c)
        (Cert.KernelIdeal.KernelArray.a2 m c) (Cert.KernelIdeal.KernelArray.a3 m c) (Cert.KernelIdeal.KernelArray.a4 m c)
        (Cert.KernelIdeal.KernelArray.a5 m c) (Cert.KernelIdeal.KernelArray.a6 m c) (Cert.KernelIdeal.KernelArray.a7 m c)
        (Cert.KernelIdeal.KernelArray.a8 m c) (Cert.KernelIdeal.KernelArray.a9 m c)
      = fun i : Cert.KernelIdeal.S16x2048.Idx => Cert.KernelIdeal.KernelArray.row m c (i 0) (i 1) := by
  funext i
  refine (congrArg _ (eq_ix2 i)).trans ?_
  exact Cert.ReferenceIdeal.RefValue.result_apply _ _ _ _ _ _ _ _ _ _ (i 0) (i 1)

/-- The reference leaves its arguments unchanged and its counters at zero. -/
theorem quiescent_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals, of equal arguments, the kernel and the reference leave the same result array. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fun i : Cert.KernelIdeal.S16x2048.Idx => Cert.KernelIdeal.KernelArray.row m c (i 0) (i 1),
    Cert.KernelIdeal.KernelArray.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8, e9⟩ := hagree c
  rw [Cert.ReferenceIdeal.Read.val_main_v67_eq m' c, e0, e1, e2, e3, e4, e5, e6, e7, e8, e9]
  exact ref_eq m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
